-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_counts [hPre_positive_counts : Cert.Pre_positive_counts.Facts] (m : (ℓ : Loc Cert.KernelIdeal.nD Cert.KernelIdeal.τ Cert.KernelIdeal.sig) → Buf (Elt Ideal) ℓ) : Prop :=
  ∀ c : Dev Cert.KernelIdeal.nD,
    (Cert.Pre_positive_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_counts [hPre_positive_counts : Cert.Pre_positive_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_positive_counts [hKernelIdeal : Cert.KernelIdeal.Facts] [hPre_positive_counts : Cert.Pre_positive_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_positive_counts [hReferenceIdeal : Cert.ReferenceIdeal.Facts] [hPre_positive_counts : Cert.Pre_positive_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_positive_counts [hKernelIdeal : Cert.KernelIdeal.Facts] [hReferenceIdeal : Cert.ReferenceIdeal.Facts] [hPre_positive_counts : Cert.Pre_positive_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_positive_counts : Cert.Pre_positive_counts.Facts),
    quiescent_Kernel (hKernel := hKernel)
    ∧ quiescent_KernelIdeal (hKernelIdeal := hKernelIdeal)
    ∧ quiescent_KernelIdeal_pre_positive_counts (hKernelIdeal := hKernelIdeal) (hPre_positive_counts := hPre_positive_counts)
    ∧ quiescent_ReferenceIdeal (hReferenceIdeal := hReferenceIdeal)
    ∧ quiescent_ReferenceIdeal_pre_positive_counts (hReferenceIdeal := hReferenceIdeal) (hPre_positive_counts := hPre_positive_counts)
    ∧ preserves_Kernel_KernelIdeal
    ∧ algebraic_KernelIdeal_ReferenceIdeal_pre_positive_counts (hKernelIdeal := hKernelIdeal) (hReferenceIdeal := hReferenceIdeal) (hPre_positive_counts := hPre_positive_counts)
-- ==== Pre_positive_counts.lean ====
abbrev S8x50x129x32x32 : Shape := ⟨5, ![8, 50, 129, 32, 32]⟩
abbrev S8x129 : Shape := ⟨2, ![8, 129]⟩
abbrev S_ : Shape := ⟨0, ![]⟩
abbrev S8 : Shape := ⟨1, ![8]⟩

class Facts : Prop where
  reducesTo_S8x129_S8_d1 : S8x129.ReducesTo [1] S8
  h_S_ : 0 < S_.numel
  bcast_S_S8 : S_.BroadcastsInDim S8 (![] : Fin 0 → Fin S8.rank)

variable [Facts]

def fn {F : FTy → Type} [FloatOps F] (main_arg0 : FVec F S8x50x129x32x32 .f32) (main_arg1 : FVec F S8x129 .f32) : IVec S8 1 :=
  let main_cst : FVec F S_ .f32 := constant S_ .f32 0x00000000#32
  let main_v0 : FVec F S8 .f32 := (fun x v => Host.reduceAdd x v reducesTo_S8x129_S8_d1 h_S_) main_arg1 main_cst
  let main_cst_0 : FVec F S_ .f32 := constant S_ .f32 0x00000000#32
  let main_v1 : FVec F S8 .f32 := broadcastInDim S8 ![] bcast_S_S8 main_cst_0
  let main_v2 : IVec S8 1 := cmpf .ogt main_v0 main_v1
  main_v2
-- ==== Kernel.lean ====
abbrev S8x50x129x32x32 : Shape := ⟨5, ![8, 50, 129, 32, 32]⟩
abbrev S8x129 : Shape := ⟨2, ![8, 129]⟩
abbrev S8x50x32x32x129 : Shape := ⟨5, ![8, 50, 32, 32, 129]⟩
abbrev S8x50x1024x129 : Shape := ⟨4, ![8, 50, 1024, 129]⟩
abbrev S_ : Shape := ⟨0, ![]⟩
abbrev S8 : Shape := ⟨1, ![8]⟩
abbrev S8x1 : Shape := ⟨2, ![8, 1]⟩
abbrev S56x56 : Shape := ⟨2, ![56, 56]⟩
abbrev S8x8x32x32x50 : Shape := ⟨5, ![8, 8, 32, 32, 50]⟩
abbrev S1x8x1024x128 : Shape := ⟨4, ![1, 8, 1024, 128]⟩
abbrev S1x8x32x32x50 : Shape := ⟨5, ![1, 8, 32, 32, 50]⟩
abbrev S7x8x8x1024 : Shape := ⟨4, ![7, 8, 8, 1024]⟩
abbrev S8x128 : Shape := ⟨2, ![8, 128]⟩
abbrev S1x1x1024x128 : Shape := ⟨4, ![1, 1, 1024, 128]⟩
abbrev S1024x128 : Shape := ⟨2, ![1024, 128]⟩
abbrev S1x1x1024x1 : Shape := ⟨4, ![1, 1, 1024, 1]⟩
abbrev S1024x1 : Shape := ⟨2, ![1024, 1]⟩
abbrev S8x1024 : Shape := ⟨2, ![8, 1024]⟩
abbrev S1x1024 : Shape := ⟨2, ![1, 1024]⟩
abbrev S1x8x1024 : Shape := ⟨3, ![1, 8, 1024]⟩
abbrev S1x8x1x1024 : Shape := ⟨4, ![1, 8, 1, 1024]⟩
abbrev S7x1x8x1024 : Shape := ⟨4, ![7, 1, 8, 1024]⟩
abbrev S7x8x1024 : Shape := ⟨3, ![7, 8, 1024]⟩
abbrev S56x1024 : Shape := ⟨2, ![56, 1024]⟩
abbrev S1024x56 : Shape := ⟨2, ![1024, 56]⟩
abbrev S1024x50 : Shape := ⟨2, ![1024, 50]⟩
abbrev S32x32x50 : Shape := ⟨3, ![32, 32, 50]⟩
abbrev S1x1x32x32x50 : Shape := ⟨5, ![1, 1, 32, 32, 50]⟩
abbrev S8x50x8x32x32 : Shape := ⟨5, ![8, 50, 8, 32, 32]⟩

abbrev nBuf : Space → Nat
  | .hbm => 18
  | .vmem => 9
  | .smem => 0
  | _ => 0

abbrev bufTy : (tb : Table) → Fin (tcTables nBuf tb) → BufTy
  | .hbm, ⟨0, _⟩ => ⟨S8x50x129x32x32, .f32⟩
  | .hbm, ⟨1, _⟩ => ⟨S8x129, .f32⟩
  | .hbm, ⟨2, _⟩ => ⟨S8x50x32x32x129, .f32⟩
  | .hbm, ⟨3, _⟩ => ⟨S8x50x1024x129, .f32⟩
  | .hbm, ⟨4, _⟩ => ⟨S_, .f32⟩
  | .hbm, ⟨5, _⟩ => ⟨S8, .f32⟩
  | .hbm, ⟨6, _⟩ => ⟨S8x1, .f32⟩
  | .hbm, ⟨7, _⟩ => ⟨S8x129, .f32⟩
  | .hbm, ⟨8, _⟩ => ⟨S8x129, .f32⟩
  | .hbm, ⟨9, _⟩ => ⟨S56x56, .i32⟩
  | .hbm, ⟨10, _⟩ => ⟨S56x56, .i32⟩
  | .hbm, ⟨11, _⟩ => ⟨S_, .i32⟩
  | .hbm, ⟨12, _⟩ => ⟨S56x56, .i32⟩
  | .hbm, ⟨13, _⟩ => ⟨S56x56, .i32⟩
  | .hbm, ⟨14, _⟩ => ⟨S56x56, .i1⟩
  | .hbm, ⟨15, _⟩ => ⟨S56x56, .f32⟩
  | .hbm, ⟨16, _⟩ => ⟨S8x8x32x32x50, .f32⟩
  | .hbm, ⟨17, _⟩ => ⟨S8x50x8x32x32, .f32⟩
  | .local _ .vmem, ⟨0, _⟩ => ⟨S8x129, .f32⟩
  | .local _ .vmem, ⟨1, _⟩ => ⟨S1x8x1024x128, .f32⟩
  | .local _ .vmem, ⟨2, _⟩ => ⟨S1x8x1024x128, .f32⟩
  | .local _ .vmem, ⟨3, _⟩ => ⟨S1x8x1024x128, .f32⟩
  | .local _ .vmem, ⟨4, _⟩ => ⟨S1x8x1024x128, .f32⟩
  | .local _ .vmem, ⟨5, _⟩ => ⟨S56x56, .f32⟩
  | .local _ .vmem, ⟨6, _⟩ => ⟨S1x8x32x32x50, .f32⟩
  | .local _ .vmem, ⟨7, _⟩ => ⟨S1x8x32x32x50, .f32⟩
  | .local _ .vmem, ⟨8, _⟩ => ⟨S7x8x8x1024, .f32⟩
  | _, _ => ⟨S8x50x129x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c7_i32 : BitVec 32 := 7#32
  let v0 : BitVec 1 := Scalar.cmpi .slt arg1 c7_i32
  let v1 : BitVec 32 := Scalar.extui v0
  let c0_i32 : BitVec 32 := 0#32
  let v2 : BitVec 1 := Scalar.cmpi .ne v1 c0_i32
  v2

def k0_off1 (i : grid0.Coords) : Fin 4 → Nat :=
  let arg1 : BitVec 32 := BitVec.ofNat 32 (i 1).val
  let v28 : Index := Scalar.indexCast arg1
  let c0_15 : Index := 0#32
  let c0_16 : Index := 0#32
  let c0_17 : Index := 0#32
  ![v28.toNat, 0, 0, 0]
def k0_off2 (i : grid0.Coords) : Fin 4 → Nat :=
  let arg1 : BitVec 32 := BitVec.ofNat 32 (i 1).val
  let v50 : Index := Scalar.indexCast arg1
  let c0_30 : Index := 0#32
  let c1_31 : Index := 1#32
  let c0_32 : Index := 0#32
  ![v50.toNat, 0, 1, 0]
def k0_off3 (i : grid0.Coords) : Fin 4 → Nat :=
  let arg1 : BitVec 32 := BitVec.ofNat 32 (i 1).val
  let v72 : Index := Scalar.indexCast arg1
  let c0_45 : Index := 0#32
  let c2_46 : Index := 2#32
  let c0_47 : Index := 0#32
  ![v72.toNat, 0, 2, 0]
def k0_off4 (i : grid0.Coords) : Fin 4 → Nat :=
  let arg1 : BitVec 32 := BitVec.ofNat 32 (i 1).val
  let v94 : Index := Scalar.indexCast arg1
  let c0_60 : Index := 0#32
  let c3_61 : Index := 3#32
  let c0_62 : Index := 0#32
  ![v94.toNat, 0, 3, 0]
def k0_off5 (i : grid0.Coords) : Fin 4 → Nat :=
  let arg1 : BitVec 32 := BitVec.ofNat 32 (i 1).val
  let v116 : Index := Scalar.indexCast arg1
  let c0_75 : Index := 0#32
  let c4_76 : Index := 4#32
  let c0_77 : Index := 0#32
  ![v116.toNat, 0, 4, 0]
def k0_off6 (i : grid0.Coords) : Fin 4 → Nat :=
  let arg1 : BitVec 32 := BitVec.ofNat 32 (i 1).val
  let v138 : Index := Scalar.indexCast arg1
  let c0_90 : Index := 0#32
  let c5_91 : Index := 5#32
  let c0_92 : Index := 0#32
  ![v138.toNat, 0, 5, 0]
def k0_off7 (i : grid0.Coords) : Fin 4 → Nat :=
  let arg1 : BitVec 32 := BitVec.ofNat 32 (i 1).val
  let v160 : Index := Scalar.indexCast arg1
  let c0_105 : Index := 0#32
  let c6_106 : Index := 6#32
  let c0_107 : Index := 0#32
  ![v160.toNat, 0, 6, 0]
def k0_off8 (i : grid0.Coords) : Fin 4 → Nat :=
  let arg1 : BitVec 32 := BitVec.ofNat 32 (i 1).val
  let v182 : Index := Scalar.indexCast arg1
  let c0_121 : Index := 0#32
  let c7_122 : Index := 7#32
  let c0_123 : Index := 0#32
  ![v182.toNat, 0, 7, 0]
def k0_cond2 (i : grid0.Coords) : BitVec 1 :=
  let arg1 : BitVec 32 := BitVec.ofNat 32 (i 1).val
  let c7_i32_0 : BitVec 32 := 7#32
  let v3 : BitVec 1 := Scalar.cmpi .eq arg1 c7_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c1_i32 : BitVec 32 := 1#32
  let c0_i32_0 : BitVec 32 := 0#32
  ![arg0.toNat, v0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S8x129 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S56x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x32x32x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8x50x129x32x32 : Shape := ⟨5, ![8, 50, 129, 32, 32]⟩
abbrev S8x129 : Shape := ⟨2, ![8, 129]⟩
abbrev S8x8x50x32x32 : Shape := ⟨5, ![8, 8, 50, 32, 32]⟩
abbrev S8x50x8x32x32 : Shape := ⟨5, ![8, 50, 8, 32, 32]⟩
abbrev S_ : Shape := ⟨0, ![]⟩
abbrev S8 : Shape := ⟨1, ![8]⟩
abbrev S1x1x8x1x1 : Shape := ⟨5, ![1, 1, 8, 1, 1]⟩

abbrev nBuf : Space → Nat
  | .hbm => 9
  | .vmem => 0
  | .smem => 0
  | _ => 0

abbrev bufTy : (tb : Table) → Fin (tcTables nBuf tb) → BufTy
  | .hbm, ⟨0, _⟩ => ⟨S8x50x129x32x32, .f32⟩
  | .hbm, ⟨1, _⟩ => ⟨S8x129, .f32⟩
  | .hbm, ⟨2, _⟩ => ⟨S8x8x50x32x32, .f32⟩
  | .hbm, ⟨3, _⟩ => ⟨S8x50x8x32x32, .f32⟩
  | .hbm, ⟨4, _⟩ => ⟨S_, .f32⟩
  | .hbm, ⟨5, _⟩ => ⟨S8, .f32⟩
  | .hbm, ⟨6, _⟩ => ⟨S1x1x8x1x1, .f32⟩
  | .hbm, ⟨7, _⟩ => ⟨S8x50x8x32x32, .f32⟩
  | .hbm, ⟨8, _⟩ => ⟨S8x50x8x32x32, .f32⟩
  | _, _ => ⟨S8x50x129x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.BodyIdeal.lean ====
/-
  The kernel body, case by case. At the first seven columns of a batch it stores eight rows of band sums into the
  intermediate array, a row past the array's fiftieth as sums of zeros. At the last column it multiplies each band's slab
  of the intermediate array by the square matrix and stores the eight products into the output block.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.Pointwise

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

/-! ## One row of the intermediate array -/

/-- The mask bit of row `r` of column word `a`: does the row lie inside the array's fifty? -/
def inside (a : BitVec 32) (r : ℕ) : BitVec 1 := Scalar.cmpi .slt (Scalar.addi (Scalar.muli a 8#32) (BitVec.ofNat 32 r)) 50#32

/-- One row's band sums at the eight bands and the 1024 pixels: the first 128 frequencies contracted against the weights `m6`, the last frequency's product with
    `m8` added; the row's numbers replaced by zeros where the mask bit `s` is off. -/
def rowSum (m6 : Vec F S8x128 .f32) (m8 : Vec F S8x1 .f32) (s : BitVec 1) (xa : Vec F S1x1x1024x128 .f32) (xb : Vec F S1x1x1024x1 .f32) : FVec F S8x1024 .f32 :=
  addf (matmul dot_S8x128_S1024x128_S8x1024_1_1_0_0_n_n none (k0_pay3 m6)
      (Scalar.select s (k0_pay6 xa) (broadcast S1024x128 (Scalar.ofBits .f32 0x00000000#32))) (constant S8x1024 .f32 0x00000000#32))
    (mulf (broadcastTo S8x1024 (k0_pay4 m8) broadcasts_S8x1_S8x1024)
      (broadcastTo S8x1024 (transpose S1x1024 [1, 0] (Scalar.select s (shapeCast S1024x1 xb shapeCasts_S1x1x1024x1_S1024x1)
        (broadcast S1024x1 (Scalar.ofBits .f32 0x00000000#32))) transposes_S1024x1_p1_0_S1x1024) broadcasts_S1x1024_S8x1024))

/-- What the masked-off numbers are does not matter. -/
theorem rowSum_congr (m6 : Vec F S8x128 .f32) (m8 : Vec F S8x1 .f32) (s : BitVec 1) {xa xa' : Vec F S1x1x1024x128 .f32} {xb xb' : Vec F S1x1x1024x1 .f32}
    (h : s = 1#1 → xa = xa' ∧ xb = xb') : rowSum m6 m8 s xa xb = rowSum m6 m8 s xa' xb' := by
  by_cases hs : s = 1#1
  · obtain ⟨rfl, rfl⟩ := h hs; rfl
  · have e : ∀ {α : Type} (p q : α), Scalar.select s p q = q := fun p q => if_neg hs
    unfold rowSum; simp only [e]

/-- The first 128 columns of the weights, their last column, and row `r` of a staged block. -/
def firstW (X : S8x129.Idx → Elt F .f32) : Vec F S8x128 .f32 := fun z => X (ix2 (n0 := 8) (n1 := 129) (z 0) ⟨(z 1).val, by have := (z 1).isLt; change (z 1).val < 128 at this; omega⟩)
def lastW (X : S8x129.Idx → Elt F .f32) : Vec F S8x1 .f32 := fun z => X (ix2 (n0 := 8) (n1 := 129) (z 0) 128)
def rowA (X : S1x8x1024x128.Idx → Elt F .f32) (r : Fin 8) : Vec F S1x1x1024x128 .f32 := fun z => X (ix4 (n0 := 1) (n1 := 8) (n2 := 1024) (n3 := 128) 0 r (z 2) (z 3))
def rowB (X : S1x8x1024x128.Idx → Elt F .f32) (r : Fin 8) : Vec F S1x1x1024x1 .f32 := fun z => X (ix4 (n0 := 1) (n1 := 8) (n2 := 1024) (n3 := 128) 0 r (z 2) 0)

/-- The row a column's eight stores write: row `r`'s sums, as the store's block. -/
def rowBlock (X0 : S8x129.Idx → Elt F .f32) (X1 X2 : S1x8x1024x128.Idx → Elt F .f32) (a : BitVec 32) (r : Fin 8) : FVec F S8x1024 .f32 :=
  rowSum (firstW X0) (lastW X0) (inside a r.val) (rowA X1 r) (rowB X2 r)

/-- The offsets of the store of row `r`. -/
def rowOff (i : grid0.Coords) (r : ℕ) : Fin 4 → ℕ := ![(Scalar.indexCast (BitVec.ofNat 32 (i 1).val) : Index).toNat, 0, r, 0]

theorem rowOff_inb (i : grid0.Coords) (h1 : k0_cond1 i = 1#1) (r : Fin 8) : ∀ a, rowOff i r.val a + S1x8x1x1024.size a ≤ S7x8x8x1024.size a := by
  have h := k0_off1_inb i h1
  have h0 := h 0
  have hr := r.isLt
  intro a
  fin_cases a
  · exact h0
  · exact Nat.le_of_eq rfl
  · change r.val + 1 ≤ 8; omega
  · exact Nat.le_of_eq rfl

theorem pay7_eq (m6 : Vec F S8x128 .f32) (m8 : Vec F S8x1 .f32) (s : BitVec 1) (xa : Vec F S1x1x1024x128 .f32) (xb : Vec F S1x1x1024x1 .f32) (z : S1x8x1x1024.Idx) :
    k0_pay7 (k0_pay3 m6) (k0_pay4 m8) s (k0_pay6 xa) xb z = rowSum m6 m8 s xa xb (ix2 (n0 := 8) (n1 := 1024) (z 1) (z 3)) := by
  change shapeCast S1x8x1x1024 (shapeCast S1x8x1024 (rowSum m6 m8 s xa xb) shapeCasts_S8x1024_S1x8x1024) shapeCasts_S1x8x1024_S1x8x1x1024 z = _
  generalize rowSum m6 m8 s xa xb = w
  pointwise

section
variable {κ : Kind} {sp : Space}

theorem read_firstW (v : View sig κ sp S8x129 .f32) (f : v.ty.Contents (Elt F)) (inb) :
    v.readAt (Elt F) (Rect.unit (s := S8x129) ![0, 0] S8x128.size inb).toLoadRect f = firstW (v.read (Elt F) f) := by
  funext z; rw [View.readAt_apply]; unfold firstW
  refine congrArg _ (funext fun a => Fin.ext ?_)
  fin_cases a
  · exact (Nat.zero_add _).trans (Nat.one_mul _)
  · exact (Nat.zero_add _).trans (Nat.one_mul _)

theorem read_lastW (v : View sig κ sp S8x129 .f32) (f : v.ty.Contents (Elt F)) (inb) :
    v.readAt (Elt F) (Rect.unit (s := S8x129) ![0, 128] S8x1.size inb).toLoadRect f = lastW (v.read (Elt F) f) := by
  funext z; rw [View.readAt_apply]; unfold lastW
  refine congrArg _ (funext fun a => Fin.ext ?_)
  fin_cases a
  · exact (Nat.zero_add _).trans (Nat.one_mul _)
  · have := (z 1).isLt; change (z 1).val < 1 at this; change 128 + 1 * (z 1).val = 128; omega

theorem read_rowA (v : View sig κ sp S1x8x1024x128 .f32) (f : v.ty.Contents (Elt F)) (r : Fin 8) (inb) :
    v.readAt (Elt F) (Rect.unit (s := S1x8x1024x128) ![0, r.val, 0, 0] S1x1x1024x128.size inb).toLoadRect f = rowA (v.read (Elt F) f) r := by
  funext z; rw [View.readAt_apply]; unfold rowA
  refine congrArg _ (funext fun a => Fin.ext ?_)
  fin_cases a
  · have := (z 0).isLt; change (z 0).val < 1 at this; change 0 + 1 * (z 0).val = 0; omega
  · have := (z 1).isLt; change (z 1).val < 1 at this; change r.val + 1 * (z 1).val = r.val; omega
  · exact (Nat.zero_add _).trans (Nat.one_mul _)
  · exact (Nat.zero_add _).trans (Nat.one_mul _)

theorem read_rowB (v : View sig κ sp S1x8x1024x128 .f32) (f : v.ty.Contents (Elt F)) (r : Fin 8) (inb) :
    v.readAt (Elt F) (Rect.unit (s := S1x8x1024x128) ![0, r.val, 0, 0] S1x1x1024x1.size inb).toLoadRect f = rowB (v.read (Elt F) f) r := by
  funext z; rw [View.readAt_apply]; unfold rowB
  refine congrArg _ (funext fun a => Fin.ext ?_)
  fin_cases a
  · have := (z 0).isLt; change (z 0).val < 1 at this; change 0 + 1 * (z 0).val = 0; omega
  · have := (z 1).isLt; change (z 1).val < 1 at this; change r.val + 1 * (z 1).val = r.val; omega
  · exact (Nat.zero_add _).trans (Nat.one_mul _)
  · have := (z 3).isLt; change (z 3).val < 1 at this; change 0 + 1 * (z 3).val = 0; omega
end

/-- The store of row `r`: where, and what. -/
def rowPiece (i : grid0.Coords) (h1 : k0_cond1 i = 1#1) (X0 : S8x129.Idx → Elt F .f32) (X1 X2 : S1x8x1024x128.Idx → Elt F .f32) (r : Fin 8) : View.Piece (Elt F) S7x8x8x1024 .f32 :=
  ⟨Rect.unit (s := S7x8x8x1024) (rowOff i r.val) S1x8x1x1024.size (rowOff_inb i h1 r),
    k0_pay7 (k0_pay3 (firstW X0)) (k0_pay4 (lastW X0)) (inside (BitVec.ofNat 32 (i 1).val) r.val) (k0_pay6 (rowA X1 r)) (rowB X2 r)⟩

theorem rowA_inb (r : Fin 8) : ∀ a, (![0, r.val, 0, 0] : Fin 4 → ℕ) a + S1x1x1024x128.size a ≤ S1x8x1024x128.size a := by
  have hr := r.isLt
  intro a
  fin_cases a
  · exact Nat.le_of_eq rfl
  · change r.val + 1 ≤ 8; omega
  · exact Nat.le_of_eq rfl
  · exact Nat.le_of_eq rfl

theorem rowB_inb (r : Fin 8) : ∀ a, (![0, r.val, 0, 0] : Fin 4 → ℕ) a + S1x1x1024x1.size a ≤ S1x8x1024x128.size a := by
  have hr := r.isLt
  intro a
  fin_cases a
  · exact Nat.le_of_eq rfl
  · change r.val + 1 ≤ 8; omega
  · exact Nat.le_of_eq rfl
  · change 0 + 1 ≤ 128; omega

/-- The same store with its operands spelled as the loads of the staged blocks. -/
theorem rowPiece_loads (i : grid0.Coords) (h1 : k0_cond1 i = 1#1) (v2 : View sig .tc .vmem S8x129 .f32) (v3 v4 : View sig .tc .vmem S1x8x1024x128 .f32)
    (f2 : v2.ty.Contents (Elt F)) (f3 : v3.ty.Contents (Elt F)) (f4 : v4.ty.Contents (Elt F)) (r : Fin 8) :
    (⟨Rect.unit (s := S7x8x8x1024) (rowOff i r.val) S1x8x1x1024.size (rowOff_inb i h1 r),
      k0_pay7 (k0_pay3 (v2.readAt (Elt F) (Rect.unit (s := S8x129) ![0, 0] S8x128.size inb_S8x129_S8x128_0_0).toLoadRect f2))
        (k0_pay4 (v2.readAt (Elt F) (Rect.unit (s := S8x129) ![0, 128] S8x1.size inb_S8x129_S8x1_0_128).toLoadRect f2))
        (inside (BitVec.ofNat 32 (i 1).val) r.val)
        (k0_pay6 (v3.readAt (Elt F) (Rect.unit (s := S1x8x1024x128) ![0, r.val, 0, 0] S1x1x1024x128.size (rowA_inb r)).toLoadRect f3))
        (v4.readAt (Elt F) (Rect.unit (s := S1x8x1024x128) ![0, r.val, 0, 0] S1x1x1024x1.size (rowB_inb r)).toLoadRect f4)⟩ : View.Piece (Elt F) S7x8x8x1024 .f32)
      = rowPiece i h1 (v2.read (Elt F) f2) (v3.read (Elt F) f3) (v4.read (Elt F) f4) r := by
  rw [read_firstW, read_lastW, read_rowA, read_rowB]; rfl

/-- What the intermediate array holds after a column's eight stores. -/
def storedRows (i : grid0.Coords) (X0 : S8x129.Idx → Elt F .f32) (X1 X2 : S1x8x1024x128.Idx → Elt F .f32) (Y : S7x8x8x1024.Idx → Elt F .f32) : S7x8x8x1024.Idx → Elt F .f32 :=
  fun y => if (y 0).val = (i 1).val then rowBlock X0 X1 X2 (BitVec.ofNat 32 (i 1).val) (y 2) (ix2 (n0 := 8) (n1 := 1024) (y 1) (y 3)) else Y y

theorem word_toNat (i : grid0.Coords) : (Scalar.indexCast (BitVec.ofNat 32 (i 1).val) : Index).toNat = (i 1).val := by
  have h := (i 1).isLt
  change (i 1).val < 8 at h
  change (BitVec.ofNat 32 (i 1).val).toNat = _
  rw [BitVec.toNat_ofNat]; omega

theorem read_stored (i : grid0.Coords) (h1 : k0_cond1 i = 1#1) (X0 : S8x129.Idx → Elt F .f32) (X1 X2 : S1x8x1024x128.Idx → Elt F .f32)
    (v : View sig .tc .vmem S7x8x8x1024 .f32) (f : v.ty.Contents (Elt F)) :
    v.read (Elt F) (v.writes (Elt F) f (List.map (rowPiece i h1 X0 X1 X2) [7, 6, 5, 4, 3, 2, 1, 0])) = storedRows i X0 X1 X2 (v.read (Elt F) f) := by
  funext y
  unfold storedRows
  by_cases hy : (y 0).val = (i 1).val
  · rw [if_pos hy]
    refine View.read_writes_apply_of_pieces v f (fun y => rowBlock X0 X1 X2 (BitVec.ofNat 32 (i 1).val) (y 2) (ix2 (n0 := 8) (n1 := 1024) (y 1) (y 3))) _ ?_ y ?_
    · intro p hp
      obtain ⟨r, -, rfl⟩ := List.mem_map.mp hp
      intro x
      refine (pay7_eq _ _ _ _ _ x).trans ?_
      have e2 : ((rowPiece i h1 X0 X1 X2 r).1.emb x) 2 = r := by
        refine Fin.ext ?_
        have := (x 2).isLt; change (x 2).val < 1 at this
        change r.val + 1 * (x 2).val = r.val; omega
      have e1 : ((rowPiece i h1 X0 X1 X2 r).1.emb x) 1 = x 1 := Fin.ext ((Nat.zero_add _).trans (Nat.one_mul _))
      have e3 : ((rowPiece i h1 X0 X1 X2 r).1.emb x) 3 = x 3 := Fin.ext ((Nat.zero_add _).trans (Nat.one_mul _))
      rw [e1, e2, e3]; rfl
    · refine ⟨rowPiece i h1 X0 X1 X2 (y 2), List.mem_map.mpr ⟨_, ?_, rfl⟩, ?_⟩
      · have : ∀ r : Fin 8, r ∈ ([7, 6, 5, 4, 3, 2, 1, 0] : List (Fin 8)) := by decide
        exact this _
      · refine (Rect.mem_set_unit (inb := rowOff_inb i h1 (y 2))).mpr fun a => ?_
        have hw := word_toNat i
        fin_cases a
        · change (Scalar.indexCast (BitVec.ofNat 32 (i 1).val) : Index).toNat ≤ (y 0).val ∧ (y 0).val < (Scalar.indexCast (BitVec.ofNat 32 (i 1).val) : Index).toNat + 1
          omega
        · exact ⟨Nat.zero_le _, (Nat.zero_add _).symm ▸ (y 1).isLt⟩
        · exact ⟨Nat.le_refl _, Nat.lt_succ_self _⟩
        · exact ⟨Nat.zero_le _, (Nat.zero_add _).symm ▸ (y 3).isLt⟩
  · rw [if_neg hy]
    refine View.read_writes_apply_of_forall_not_mem v f y _ fun p hp => ?_
    obtain ⟨r, -, rfl⟩ := List.mem_map.mp hp
    have hw := word_toNat i
    exact Rect.not_mem_set_of_axis _ y 0 (i 1).val 1 hw rfl rfl (by omega)

/-- The body at a grid point of the first seven columns. -/
theorem rows_run (c : Dev nD) (i : grid0.Coords) (h1 : k0_cond1 i = 1#1) (h2 : ¬k0_cond2 i = 1#1)
    (arg2 : Memref sig .tc .vmem S8x129 .f32) (harg2 : arg2.IsWhole) (arg3 : Memref sig .tc .vmem S1x8x1024x128 .f32) (harg3 : arg3.IsWhole)
    (arg4 : Memref sig .tc .vmem S1x8x1024x128 .f32) (harg4 : arg4.IsWhole) (arg5 : Memref sig .tc .vmem S56x56 .f32) (harg5 : arg5.IsWhole)
    (arg6 : Memref sig .tc .vmem S1x8x32x32x50 .f32) (harg6 : arg6.IsWhole) (arg7 : Memref sig .tc .vmem S7x8x8x1024 .f32) (harg7 : arg7.IsWhole)
    (X0 : S8x129.Idx → Elt F .f32) (X1 X2 : S1x8x1024x128.Idx → Elt F .f32) (X3 : S56x56.Idx → Elt F .f32) (Y : S7x8x8x1024.Idx → Elt F .f32)
    (K : PUnit → sProp 𝕄) :
    iprop((owns (c : Thread nD τ) arg2 fullShare X0 ∗ owns (c : Thread nD τ) arg3 fullShare X1 ∗ owns (c : Thread nD τ) arg4 fullShare X2
            ∗ owns (c : Thread nD τ) arg5 fullShare X3 ∗ owns (c : Thread nD τ) arg7 fullShare Y)
          ∗ (iprop(owns (c : Thread nD τ) arg2 fullShare X0 ∗ owns (c : Thread nD τ) arg3 fullShare X1 ∗ owns (c : Thread nD τ) arg4 fullShare X2
              ∗ owns (c : Thread nD τ) arg5 fullShare X3 ∗ owns (c : Thread nD τ) arg7 fullShare (storedRows i X0 X1 X2 Y)) -∗ K ⟨⟩))
      ⊢ wp frame (wpE (defs₀ (F := F)) Variants.none c none) Set.univ
          (cc0_freq_band_avg i arg2 harg2 arg3 harg3 arg4 harg4 arg5 harg5 arg6 harg6 arg7 harg7) K := by
  simp only [cc0_freq_band_avg_eq_skeleton]; unfold cc0_freq_band_avg_skel
  unfold owns
  iintro ⟨⟨⟨%f2, %hf2, H2⟩, ⟨%f3, %hf3, H3⟩, ⟨%f4, %hf4, H4⟩, ⟨%f5, %hf5, H5⟩, ⟨%f7, %hf7, H7⟩⟩, Hk⟩
  sl_exec_parts
  sl_step
  iapply Hk
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  iexists _; isplitr; swap; · iexact H7
  ipureintro
  subst hf2 hf3 hf4 hf7
  refine Eq.trans (congrArg (fun L => arg7.view.read (Elt F) (arg7.view.writes (Elt F) f7 L)) ?_) (read_stored i h1 _ _ _ arg7.view f7)
  refine Eq.trans ?_ (List.map_congr_left fun r _ => rowPiece_loads i h1 arg2.view arg3.view arg4.view f2 f3 f4 r)
  rfl

/-! ## The output block -/

/-- Band `g` of the intermediate array. -/
def slab (Y : S7x8x8x1024.Idx → Elt F .f32) (g : Fin 8) : Vec F S7x1x8x1024 .f32 := fun z => Y (ix4 (n0 := 7) (n1 := 8) (n2 := 8) (n3 := 1024) (z 0) g (z 2) (z 3))

/-- The product of band `g`'s rows with the square matrix `E`: one number per pixel and row. -/
def bandMat (Y : S7x8x8x1024.Idx → Elt F .f32) (E : Vec F S56x56 .f32) (g : Fin 8) : FVec F S1024x56 .f32 :=
  matmul dot_S56x1024_S56x56_S1024x56_0_0_1_1_n_n none (shapeCast S56x1024 (shapeCast S7x8x1024 (slab Y g) shapeCasts_S7x1x8x1024_S7x8x1024) shapeCasts_S7x8x1024_S56x1024)
    E (constant S1024x56 .f32 0x00000000#32)

/-- What the output block holds after the last column. -/
def outBlock (Y : S7x8x8x1024.Idx → Elt F .f32) (E : Vec F S56x56 .f32) : S1x8x32x32x50.Idx → Elt F .f32 :=
  fun y => bandMat Y E (y 1) (ix2 (n0 := 1024) (n1 := 56)
    ⟨(y 2).val * 32 + (y 3).val, by have h2 := (y 2).isLt; have h3 := (y 3).isLt; change (y 2).val < 32 at h2; change (y 3).val < 32 at h3; omega⟩
    ⟨(y 4).val, by have h4 := (y 4).isLt; change (y 4).val < 50 at h4; omega⟩)

theorem pay23_eq (Y : S7x8x8x1024.Idx → Elt F .f32) (E : Vec F S56x56 .f32) (g : Fin 8) (z : S1x1x32x32x50.Idx) (y : S1x8x32x32x50.Idx)
    (e1 : y 1 = g) (e2 : (y 2).val = (z 2).val) (e3 : (y 3).val = (z 3).val) (e4 : (y 4).val = (z 4).val) : k0_pay23 (slab Y g) E z = outBlock Y E y := by
  have e : shapeCast S56x56 E shapeCasts_S56x56_S56x56 = E := by funext j; pointwise
  change shapeCast S1x1x32x32x50 (shapeCast S32x32x50 (extractStridedSlice S1024x50 ![0, 0] (matmul dot_S56x1024_S56x56_S1024x56_0_0_1_1_n_n none
    (shapeCast S56x1024 (shapeCast S7x8x1024 (slab Y g) shapeCasts_S7x1x8x1024_S7x8x1024) shapeCasts_S7x8x1024_S56x1024)
    (shapeCast S56x56 E shapeCasts_S56x56_S56x56) (constant S1024x56 .f32 0x00000000#32)) slices_S1024x56_o0_0_S1024x50) shapeCasts_S1024x50_S32x32x50) shapeCasts_S32x32x50_S1x1x32x32x50 z = _
  rw [e]
  unfold outBlock
  rw [e1]
  change shapeCast S1x1x32x32x50 (shapeCast S32x32x50 (extractStridedSlice S1024x50 ![0, 0] (bandMat Y E g) slices_S1024x56_o0_0_S1024x50)
    shapeCasts_S1024x50_S32x32x50) shapeCasts_S32x32x50_S1x1x32x32x50 z = _
  generalize bandMat Y E g = w
  pointwise
  exact congrArg w ((ix2_inj ..).2 ⟨Fin.ext (by change (z 2).val * 32 + (z 3).val = (y 2).val * 32 + (y 3).val; rw [e2, e3]), Fin.ext e4.symm⟩)

section
variable {κ : Kind} {sp : Space}

theorem slab_inb (g : Fin 8) : ∀ a, (![0, g.val, 0, 0] : Fin 4 → ℕ) a + S7x1x8x1024.size a ≤ S7x8x8x1024.size a := by
  have hr := g.isLt
  intro a
  fin_cases a
  · exact Nat.le_of_eq rfl
  · change g.val + 1 ≤ 8; omega
  · exact Nat.le_of_eq rfl
  · exact Nat.le_of_eq rfl

theorem out_inb (g : Fin 8) : ∀ a, (![0, g.val, 0, 0, 0] : Fin 5 → ℕ) a + S1x1x32x32x50.size a ≤ S1x8x32x32x50.size a := by
  have hr := g.isLt
  intro a
  fin_cases a
  · exact Nat.le_of_eq rfl
  · change g.val + 1 ≤ 8; omega
  · exact Nat.le_of_eq rfl
  · exact Nat.le_of_eq rfl
  · exact Nat.le_of_eq rfl

theorem read_slab (v : View sig κ sp S7x8x8x1024 .f32) (f : v.ty.Contents (Elt F)) (g : Fin 8) (inb) :
    v.readAt (Elt F) (Rect.unit (s := S7x8x8x1024) ![0, g.val, 0, 0] S7x1x8x1024.size inb).toLoadRect f = slab (v.read (Elt F) f) g := by
  funext z; rw [View.readAt_apply]; unfold slab
  refine congrArg _ (funext fun a => Fin.ext ?_)
  fin_cases a
  · exact (Nat.zero_add _).trans (Nat.one_mul _)
  · have := (z 1).isLt; change (z 1).val < 1 at this; change g.val + 1 * (z 1).val = g.val; omega
  · exact (Nat.zero_add _).trans (Nat.one_mul _)
  · exact (Nat.zero_add _).trans (Nat.one_mul _)

theorem read_square (v : View sig κ sp S56x56 .f32) (f : v.ty.Contents (Elt F)) (inb) :
    v.readAt (Elt F) (Rect.unit (s := S56x56) ![0, 0] S56x56.size inb).toLoadRect f = v.read (Elt F) f := by
  funext z; rw [View.readAt_apply]
  refine congrArg _ (funext fun a => Fin.ext ?_)
  fin_cases a
  · exact (Nat.zero_add _).trans (Nat.one_mul _)
  · exact (Nat.zero_add _).trans (Nat.one_mul _)
end

/-- The store of band `g`: where, and what. -/
def bandPiece (Y : S7x8x8x1024.Idx → Elt F .f32) (E : Vec F S56x56 .f32) (g : Fin 8) : View.Piece (Elt F) S1x8x32x32x50 .f32 :=
  ⟨Rect.unit (s := S1x8x32x32x50) ![0, g.val, 0, 0, 0] S1x1x32x32x50.size (out_inb g), k0_pay23 (slab Y g) E⟩

/-- The same store with its operands spelled as the loads. -/
theorem bandPiece_loads (v5 : View sig .tc .vmem S56x56 .f32) (v7 : View sig .tc .vmem S7x8x8x1024 .f32)
    (f5 : v5.ty.Contents (Elt F)) (f7 : v7.ty.Contents (Elt F)) (g : Fin 8) :
    (⟨Rect.unit (s := S1x8x32x32x50) ![0, g.val, 0, 0, 0] S1x1x32x32x50.size (out_inb g),
      k0_pay23 (v7.readAt (Elt F) (Rect.unit (s := S7x8x8x1024) ![0, g.val, 0, 0] S7x1x8x1024.size (slab_inb g)).toLoadRect f7)
        (v5.readAt (Elt F) (Rect.unit (s := S56x56) ![0, 0] S56x56.size inb_S56x56_S56x56_0_0).toLoadRect f5)⟩ : View.Piece (Elt F) S1x8x32x32x50 .f32)
      = bandPiece (v7.read (Elt F) f7) (v5.read (Elt F) f5) g := by
  rw [read_slab, read_square]; rfl

theorem read_bands (Y : S7x8x8x1024.Idx → Elt F .f32) (E : Vec F S56x56 .f32) (v : View sig .tc .vmem S1x8x32x32x50 .f32) (f : v.ty.Contents (Elt F)) :
    v.read (Elt F) (v.writes (Elt F) f (List.map (bandPiece Y E) [7, 6, 5, 4, 3, 2, 1, 0])) = outBlock Y E := by
  funext y
  refine View.read_writes_apply_of_pieces v f (outBlock Y E) _ ?_ y ?_
  · intro p hp
    obtain ⟨g, -, rfl⟩ := List.mem_map.mp hp
    intro x
    refine pay23_eq Y E g x _ (Fin.ext ?_) ?_ ?_ ?_
    · have := (x 1).isLt; change (x 1).val < 1 at this
      change g.val + 1 * (x 1).val = g.val; omega
    · exact (Nat.zero_add _).trans (Nat.one_mul _)
    · exact (Nat.zero_add _).trans (Nat.one_mul _)
    · exact (Nat.zero_add _).trans (Nat.one_mul _)
  · refine ⟨bandPiece Y E (y 1), List.mem_map.mpr ⟨_, ?_, rfl⟩, ?_⟩
    · have : ∀ r : Fin 8, r ∈ ([7, 6, 5, 4, 3, 2, 1, 0] : List (Fin 8)) := by decide
      exact this _
    · refine (Rect.mem_set_unit (inb := out_inb (y 1))).mpr fun a => ?_
      fin_cases a
      · exact ⟨Nat.zero_le _, (Nat.zero_add _).symm ▸ (y 0).isLt⟩
      · exact ⟨Nat.le_refl _, Nat.lt_succ_self _⟩
      · exact ⟨Nat.zero_le _, (Nat.zero_add _).symm ▸ (y 2).isLt⟩
      · exact ⟨Nat.zero_le _, (Nat.zero_add _).symm ▸ (y 3).isLt⟩
      · exact ⟨Nat.zero_le _, (Nat.zero_add _).symm ▸ (y 4).isLt⟩

/-- The body at a grid point of the last column: the output block ends holding every band's product, all else is as it was. -/
theorem bands_run (c : Dev nD) (i : grid0.Coords) (h1 : ¬k0_cond1 i = 1#1) (h2 : k0_cond2 i = 1#1)
    (arg2 : Memref sig .tc .vmem S8x129 .f32) (harg2 : arg2.IsWhole) (arg3 : Memref sig .tc .vmem S1x8x1024x128 .f32) (harg3 : arg3.IsWhole)
    (arg4 : Memref sig .tc .vmem S1x8x1024x128 .f32) (harg4 : arg4.IsWhole) (arg5 : Memref sig .tc .vmem S56x56 .f32) (harg5 : arg5.IsWhole)
    (arg6 : Memref sig .tc .vmem S1x8x32x32x50 .f32) (harg6 : arg6.IsWhole) (arg7 : Memref sig .tc .vmem S7x8x8x1024 .f32) (harg7 : arg7.IsWhole)
    (E : S56x56.Idx → Elt F .f32) (D : S1x8x32x32x50.Idx → Elt F .f32) (Y : S7x8x8x1024.Idx → Elt F .f32)
    (K : PUnit → sProp 𝕄) :
    iprop((owns (c : Thread nD τ) arg5 fullShare E ∗ owns (c : Thread nD τ) arg6 fullShare D ∗ owns (c : Thread nD τ) arg7 fullShare Y)
          ∗ (iprop(owns (c : Thread nD τ) arg5 fullShare E ∗ owns (c : Thread nD τ) arg6 fullShare (outBlock Y E)
              ∗ owns (c : Thread nD τ) arg7 fullShare Y) -∗ K ⟨⟩))
      ⊢ wp frame (wpE (defs₀ (F := F)) Variants.none c none) Set.univ
          (cc0_freq_band_avg i arg2 harg2 arg3 harg3 arg4 harg4 arg5 harg5 arg6 harg6 arg7 harg7) K := by
  simp only [cc0_freq_band_avg_eq_skeleton]; unfold cc0_freq_band_avg_skel
  unfold owns
  iintro ⟨⟨⟨%f5, %hf5, H5⟩, ⟨%f6, %hf6, H6⟩, ⟨%f7, %hf7, H7⟩⟩, Hk⟩
  sl_exec_parts
  sl_step
  iapply Hk
  isplitl [H5]; · iexists f5; isplitr; · ipureintro; exact hf5
                  iexact H5
  isplitr [H7]; swap
  · iexists f7; isplitr; · ipureintro; exact hf7
    iexact H7
  iexists _; isplitr; swap; · iexact H6
  ipureintro
  subst hf5 hf7
  refine Eq.trans (congrArg (fun L => arg6.view.read (Elt F) (arg6.view.writes (Elt F) f6 L)) ?_) (read_bands _ _ arg6.view f6)
  refine Eq.trans ?_ (List.map_congr_left fun g _ => bandPiece_loads arg5.view arg7.view f5 f7 g)
  rfl

end Cert.KernelIdeal.Band

end
-- ==== Proof.RunIdeal.lean ====
/-
  The run of the program. The invariant says that the intermediate array's columns so far are the current batch's; the
  blocks that reach past the array's end are described by their moved part alone, since the body masks the rest off.
  From it: every execution terminates, the arguments end as they were, and every counter ends at zero.
-/
module

public import proofs.«01_k».proof.Proof.BodyIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.Pointwise
public import Idealize.ShloMosaic.Lib.Pipeline.FrameBody
public import Idealize.ShloMosaic.Lib.Pipeline.FrameSuffix
public import Idealize.ShloMosaic.Lib.Pipeline.Value

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coord0 : ∀ t : Fin grid0.N, (grid0.coords t 0).val = t.val / 8 := by decide +kernel
theorem coord1 : ∀ t : Fin grid0.N, (grid0.coords t 1).val = t.val % 8 := by decide +kernel
theorem cond1_iff : ∀ t : Fin grid0.N, k0_cond1 (grid0.coords t) = 1#1 ↔ t.val % 8 ≠ 7 := by decide +kernel
theorem cond2_iff : ∀ t : Fin grid0.N, k0_cond2 (grid0.coords t) = 1#1 ↔ t.val % 8 = 7 := by decide +kernel
theorem inside_iff : ∀ (j r : Fin 8), inside (BitVec.ofNat 32 j.val) r.val = 1#1 ↔ 8 * j.val + r.val < 50 := by decide +kernel
theorem index1 : ∀ t : Fin grid0.N, win0_1.index t = ![t.val / 8, min (t.val % 8) 6, 0, 0] := by decide +kernel
theorem index2 : ∀ t : Fin grid0.N, win0_2.index t = ![t.val / 8, min (t.val % 8) 6, 0, 1] := by decide +kernel
theorem index4 : ∀ t : Fin grid0.N, win0_4.index t = ![t.val / 8, 0, 0, 0, 0] := by decide +kernel
theorem xsize1 : ∀ t : Fin grid0.N, t.val % 8 ≠ 7 → win0_1.xsize (grid0.coords t) = ![1, min 8 (50 - 8 * (t.val % 8)), 1024, 128] := by decide +kernel
theorem xsize2 : ∀ t : Fin grid0.N, t.val % 8 ≠ 7 → win0_2.xsize (grid0.coords t) = ![1, min 8 (50 - 8 * (t.val % 8)), 1024, 1] := by decide +kernel

theorem clip1 (t t' : Fin cfg0.N) (h : win0_1.index t = win0_1.index t') : win0_1.clip (grid0.coords t) = win0_1.clip (grid0.coords t') := by
  have h' : cc0_transform_1 (grid0.coords t) = cc0_transform_1 (grid0.coords t') := h
  funext a
  exact congrArg (fun k : Fin 4 → ℕ => Pipeline.Clip.of (k a) _ _) h'

theorem clip2 (t t' : Fin cfg0.N) (h : win0_2.index t = win0_2.index t') : win0_2.clip (grid0.coords t) = win0_2.clip (grid0.coords t') := by
  have h' : cc0_transform_2 (grid0.coords t) = cc0_transform_2 (grid0.coords t') := h
  funext a
  exact congrArg (fun k : Fin 4 → ℕ => Pipeline.Clip.of (k a) _ _) h'

/-! ## The arrays the region reads, and what it makes of them -/

/-- The normalised weights, the pixels-by-frequencies array and the square matrix, as the region finds them. -/
def wts (c : Dev nD) : S8x129.Idx → Elt F .f32 := V m c main_v5
def xs (c : Dev nD) : S8x50x1024x129.Idx → Elt F .f32 := V m c main_v1
def sq (c : Dev nD) : S56x56.Idx → Elt F .f32 := V m c main_v11

/-- Row `T` of batch `b`: its first 128 frequencies, and its last; zero past the fiftieth row. -/
def fullA (c : Dev nD) (b : Fin 8) (T : ℕ) : Vec F S1x1x1024x128 .f32 := fun z =>
  if h : T < 50 then xs m c (ix4 (n0 := 8) (n1 := 50) (n2 := 1024) (n3 := 129) b ⟨T, h⟩ (z 2) ⟨(z 3).val, by have h3 := (z 3).isLt; change (z 3).val < 128 at h3; omega⟩) else Scalar.ofBits .f32 0x00000000#32
def fullB (c : Dev nD) (b : Fin 8) (T : ℕ) : Vec F S1x1x1024x1 .f32 := fun z =>
  if h : T < 50 then xs m c (ix4 (n0 := 8) (n1 := 50) (n2 := 1024) (n3 := 129) b ⟨T, h⟩ (z 2) 128) else Scalar.ofBits .f32 0x00000000#32

/-- Row `r` of column `j` of batch `b`'s intermediate array. -/
def fullRow (c : Dev nD) (b : Fin 8) (j : ℕ) (r : Fin 8) : FVec F S8x1024 .f32 :=
  rowSum (firstW (wts m c)) (lastW (wts m c)) (inside (BitVec.ofNat 32 j) r.val) (fullA m c b (8 * j + r.val)) (fullB m c b (8 * j + r.val))

/-- Batch `b`'s whole intermediate array. -/
def rowsOf (c : Dev nD) (b : Fin 8) : S7x8x8x1024.Idx → Elt F .f32 := fun y => fullRow m c b (y 0).val (y 2) (ix2 (n0 := 8) (n1 := 1024) (y 1) (y 3))

/-- The batch of a grid point. -/
def batch (t : Fin grid0.N) : Fin 8 := ⟨t.val / 8, by have h := t.isLt; have h64 := N_0; omega⟩

theorem iblk0_eq (c : Dev nD) (t : Fin cfg0.N) : iblk m c 0 t = wts m c := by
  funext y
  unfold iblk wts
  rw [View.read_apply]
  refine congrArg (V m c main_v5) (funext fun a => Fin.ext ?_)
  exact win0_0.rect_emb_val_of_index_zero t a (by fin_cases a <;> rfl) y

theorem iblk3_eq (c : Dev nD) (t : Fin cfg0.N) : iblk m c 3 t = sq m c := by
  funext y
  unfold iblk sq
  rw [View.read_apply]
  refine congrArg (V m c main_v11) (funext fun a => Fin.ext ?_)
  exact win0_3.rect_emb_val_of_index_zero t a (by fin_cases a <;> rfl) y

/-- The staged rows inside the array are the array's rows, whatever lies past its end. -/
theorem rowA_staged (c : Dev nD) (t : Fin cfg0.N) (ht : t.val % 8 ≠ 7) (d : S1x8x1024x128.Idx → Elt F .f32) (r : Fin 8) (hr : 8 * (t.val % 8) + r.val < 50) :
    rowA (win0_1.fill (grid0.coords t) d (iblk m c 1 t)) r = fullA m c (batch t) (8 * (t.val % 8) + r.val) := by
  funext z
  have hrl := r.isLt
  have hx := xsize1 t ht
  have hm : win0_1.moved (grid0.coords t) (ix4 (n0 := 1) (n1 := 8) (n2 := 1024) (n3 := 128) 0 r (z 2) (z 3)) = true := by
    rw [win0_1.moved_iff, hx]
    intro a
    fin_cases a
    · exact Nat.one_pos
    · change r.val < min 8 (50 - 8 * (t.val % 8)); omega
    · exact (z 2).isLt
    · exact (z 3).isLt
  have hi := index1 t
  unfold rowA fullA Pipeline.Window.fill
  rw [dif_pos hm, dif_pos hr]
  unfold iblk xs
  rw [View.read_apply]
  refine congrArg (V m c main_v1) (funext fun a => Fin.ext ?_)
  refine (win0_1.rect_emb_val t _ a).trans ?_
  rw [hi]
  fin_cases a
  · change t.val / 8 * 1 + 0 = t.val / 8; omega
  · change min (t.val % 8) 6 * 8 + r.val = 8 * (t.val % 8) + r.val; omega
  · change 0 * 1024 + (z 2).val = (z 2).val; omega
  · change 0 * 128 + (z 3).val = (z 3).val; omega

theorem rowB_staged (c : Dev nD) (t : Fin cfg0.N) (ht : t.val % 8 ≠ 7) (d : S1x8x1024x128.Idx → Elt F .f32) (r : Fin 8) (hr : 8 * (t.val % 8) + r.val < 50) :
    rowB (win0_2.fill (grid0.coords t) d (iblk m c 2 t)) r = fullB m c (batch t) (8 * (t.val % 8) + r.val) := by
  funext z
  have hrl := r.isLt
  have hx := xsize2 t ht
  have hm : win0_2.moved (grid0.coords t) (ix4 (n0 := 1) (n1 := 8) (n2 := 1024) (n3 := 128) 0 r (z 2) 0) = true := by
    rw [win0_2.moved_iff, hx]
    intro a
    fin_cases a
    · exact Nat.one_pos
    · change r.val < min 8 (50 - 8 * (t.val % 8)); omega
    · exact (z 2).isLt
    · exact Nat.one_pos
  have hi := index2 t
  unfold rowB fullB Pipeline.Window.fill
  rw [dif_pos hm, dif_pos hr]
  unfold iblk xs
  rw [View.read_apply]
  refine congrArg (V m c main_v1) (funext fun a => Fin.ext ?_)
  refine (win0_2.rect_emb_val t _ a).trans ?_
  rw [hi]
  fin_cases a
  · change t.val / 8 * 1 + 0 = t.val / 8; omega
  · change min (t.val % 8) 6 * 8 + r.val = 8 * (t.val % 8) + r.val; omega
  · change 0 * 1024 + (z 2).val = (z 2).val; omega
  · rfl

theorem rowBlock_staged (c : Dev nD) (t : Fin cfg0.N) (ht : t.val % 8 ≠ 7) (d1 d2 : S1x8x1024x128.Idx → Elt F .f32) (r : Fin 8) :
    rowBlock (wts m c) (win0_1.fill (grid0.coords t) d1 (iblk m c 1 t)) (win0_2.fill (grid0.coords t) d2 (iblk m c 2 t)) (BitVec.ofNat 32 (grid0.coords t 1).val) r
      = fullRow m c (batch t) (t.val % 8) r := by
  unfold rowBlock fullRow
  rw [coord1 t]
  refine rowSum_congr _ _ _ fun hs => ?_
  have hr : 8 * (t.val % 8) + r.val < 50 := (inside_iff ⟨t.val % 8, Nat.mod_lt _ (by decide)⟩ r).mp hs
  exact ⟨rowA_staged m c t ht d1 r hr, rowB_staged m c t ht d2 r hr⟩

/-! ## The proof data -/

/-- The intermediate array's columns before `j` are batch `b`'s. -/
def Upto (c : Dev nD) (b : ℕ) (j : ℕ) (f : S7x8x8x1024.Idx → Elt F .f32) : Prop :=
  ∀ hb : b < 8, ∀ y, (y 0).val < j → f y = rowsOf m c ⟨b, hb⟩ y

/-- The invariant before point `t`. -/
def inv (c : Dev nD) (t : ℕ) : sProp 𝕄 :=
  iprop((∃ f : S7x8x8x1024.Idx → Elt F .f32, ⌜Upto m c (t / 8) (t % 8) f⌝ ∗ owns (c : Thread nD τ) (Memref.whole cc0_scratch0) fullShare f) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0x00000000#32) (iblk m c 1 t)
    | ⟨2, _⟩ => win0_2.fill (grid0.coords t) (fun _ => Scalar.ofBits .f32 0x00000000#32) (iblk m c 2 t)
    | ⟨3, _⟩ => iblk m c 3 t
    | ⟨4, _⟩ => outBlock (rowsOf m c (batch t)) (sq m c)
  Φ t := inv m c t.val
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = wts m c :=
  (before0_0_of m (dats m 0 c) (A_eq m c 0) (fun _ => by dsimp only [dats]) t d).trans (iblk0_eq m c t)
theorem before3 (c : Dev nD) (t : Fin cfg0.N) (d) : (dats m 0 c).before 3 t d = sq m c :=
  (before0_3_of m (dats m 0 c) (A_eq m c 3) (fun _ => by dsimp only [dats]) t d).trans (iblk3_eq m c t)
theorem before1 (c : Dev nD) (t : Fin cfg0.N) (d) : (dats m 0 c).before 1 t d = win0_1.fill (grid0.coords t) d (iblk m c 1 t) :=
  (dats m 0 c).before_in_eq_fetched 1 rfl (fun _ => rfl) clip1 (fun t => win0_1.cut_fill _ _ _) t d
theorem before2 (c : Dev nD) (t : Fin cfg0.N) (d) : (dats m 0 c).before 2 t d = win0_2.fill (grid0.coords t) d (iblk m c 2 t) :=
  (dats m 0 c).before_in_eq_fetched 2 rfl (fun _ => rfl) clip2 (fun t => win0_2.cut_fill _ _ _) t d

theorem defs₀_row (t : Fin cfg0.N) : defs₀ (F := F) .tc cfg0.body (cfg0.bodyArgs t (cfg0.slots t)) = bodyAt0 t := by
  unfold defs₀; rw [Defs.onTc_tc]

theorem idle4_of (t : Fin cfg0.N) (ht : t.val % 8 ≠ 7) : idle0 4 (grid0.coords t) = true := by
  revert t; decide +kernel
theorem live4_of (t : Fin cfg0.N) (ht : t.val % 8 = 7) : idle0 4 (grid0.coords t) = false := by
  revert t; decide +kernel

theorem idle_in0 (i : cfg0.grid.Coords) : cfg0.idle 0 i = false := rfl
theorem idle_in1 (i : cfg0.grid.Coords) : cfg0.idle 1 i = false := rfl
theorem idle_in2 (i : cfg0.grid.Coords) : cfg0.idle 2 i = false := rfl
theorem idle_in3 (i : cfg0.grid.Coords) : cfg0.idle 3 i = false := rfl
theorem loose0_0 : cfg0.loose 0 = false := by decide +kernel
theorem loose0_1 : cfg0.loose 1 = true := by decide +kernel
theorem loose0_2 : cfg0.loose 2 = true := by decide +kernel
theorem loose0_3 : cfg0.loose 3 = false := by decide +kernel
theorem loose0_4 : cfg0.loose 4 = false := by decide +kernel

/-- The intermediate array after a column's stores holds one column more of the batch. -/
theorem upto_step (c : Dev nD) (t : Fin cfg0.N) (ht : t.val % 8 ≠ 7) (d1 d2 : S1x8x1024x128.Idx → Elt F .f32) (f : S7x8x8x1024.Idx → Elt F .f32)
    (hf : Upto m c (t.val / 8) (t.val % 8) f) :
    Upto m c ((t.val + 1) / 8) ((t.val + 1) % 8) (storedRows (grid0.coords t) (wts m c) (win0_1.fill (grid0.coords t) d1 (iblk m c 1 t))
      (win0_2.fill (grid0.coords t) d2 (iblk m c 2 t)) f) := by
  have e1 : (t.val + 1) / 8 = t.val / 8 := by omega
  have e2 : (t.val + 1) % 8 = t.val % 8 + 1 := by omega
  rw [e1, e2]
  intro hb y hy
  unfold storedRows
  have hc := coord1 t
  by_cases h : (y 0).val = (grid0.coords t 1).val
  · rw [if_pos h]
    refine (congrFun (rowBlock_staged m c t ht d1 d2 (y 2)) _).trans ?_
    unfold rowsOf
    rw [h, hc]; rfl
  · rw [if_neg h]
    exact hf hb y (by omega)

theorem outBlock_congr {Y Y' : S7x8x8x1024.Idx → Elt F .f32} (h : Y = Y') (E : Vec F S56x56 .f32) : outBlock Y E = outBlock Y' E := by rw [h]

theorem upto_full (c : Dev nD) (t : Fin cfg0.N) (ht : t.val % 8 = 7) (f : S7x8x8x1024.Idx → Elt F .f32)
    (hf : Upto m c (t.val / 8) (t.val % 8) f) : f = rowsOf m c (batch t) := by
  funext y
  refine hf (batch t).isLt y ?_
  have := (y 0).isLt
  change (y 0).val < 7 at this
  omega

theorem body_obligation (c : Dev nD) : BodyObligationLoose (dats (F := F) m 0 c) (defs₀ (F := F)) Variants.none () Set.univ := fun t => by
  rw [bigSep_W0, bigSep_W0, defs₀_row]
  rw [show (dats m 0 c).Φ t.succ = inv m c (t.val + 1) from rfl,
    show (dats m 0 c).Φ t.castSucc = inv m c t.val from rfl,
    show (dats m 0 c).owesAt () t.succ = (dats m 0 c).owesAt () t.castSucc from rfl]
  by_cases ht : t.val % 8 = 7
  · have hflush : (cfg0.win 4).flush t = true := (flush0_4 t).mpr ht
    have hlive := live4_of t ht
    have h1 : ¬k0_cond1 (grid0.coords t) = 1#1 := fun h => (cond1_iff t).mp h ht
    have h2 : k0_cond2 (grid0.coords t) = 1#1 := (cond2_iff t).mpr ht
    simp only [hlive, idle_in0, idle_in1, idle_in2, idle_in3, loose0_0, loose0_1, loose0_2, loose0_3, loose0_4]
    unfold inv bodyAt0
    iintro ⟨⟨⟨%f, %hf, HS⟩, Hg⟩, Ho, ⟨%d0, H0⟩, ⟨%d1, H1⟩, ⟨%d2, H2⟩, ⟨%d3, H3⟩, ⟨%d4, H4⟩⟩
    rw [before0 m c t d0, before1 m c t d1, before2 m c t d2, before3 m c t d3]
    iapply (bands_run (F := F) c (grid0.coords t) h1 h2 _ _ _ _ _ _ _ _ _ _ _ _ (sq m c) ((dats m 0 c).before 4 t d4) f _)
    isplitl [H3 H4 HS]
    · isplitl [H3]; · iexact H3
      isplitl [H4]; · iexact H4
      iexact HS
    iintro ⟨H3, H4, HS⟩
    isplitl [HS Hg]
    · isplitl [HS]
      · iexists f; isplitr
        · ipureintro
          intro hb y hy
          omega
        iexact HS
      iexact Hg
    isplitl [Ho]; · iexact Ho
    have hc1 : win0_1.cut (grid0.coords t) ((dats m 0 c).after 1 t) = iblk m c 1 t := win0_1.cut_fill _ _ _
    have hc2 : win0_2.cut (grid0.coords t) ((dats m 0 c).after 2 t) = iblk m c 2 t := win0_2.cut_fill _ _ _
    isplitl [H0]
    · change _ ⊢ owns (c : Thread nD τ) (st0_0 t) fullShare (iblk m c 0 t)
      rw [iblk0_eq]
    isplitl [H1]
    · iexists d1
      change _ ⊢ owns (c : Thread nD τ) (st0_1 t) fullShare (win0_1.fill (grid0.coords t) d1 (win0_1.cut (grid0.coords t) ((dats m 0 c).after 1 t)))
      rw [hc1]
    isplitl [H2]
    · iexists d2
      change _ ⊢ owns (c : Thread nD τ) (st0_2 t) fullShare (win0_2.fill (grid0.coords t) d2 (win0_2.cut (grid0.coords t) ((dats m 0 c).after 2 t)))
      rw [hc2]
    isplitl [H3]
    · change _ ⊢ owns (c : Thread nD τ) (st0_3 t) fullShare (iblk m c 3 t)
      rw [iblk3_eq]
    change _ ⊢ owns (c : Thread nD τ) (st0_4 t) fullShare (outBlock (rowsOf m c (batch t)) (sq m c))
    rw [← upto_full m c t ht f hf]
  · have hflush : (win0 4).flush t = false := by
      rw [← Bool.not_eq_true]; exact fun h => ht ((flush0_4 t).mp h)
    have hidle := idle4_of t ht
    have h1 : k0_cond1 (grid0.coords t) = 1#1 := (cond1_iff t).mpr ht
    have h2 : ¬k0_cond2 (grid0.coords t) = 1#1 := fun h => ht ((cond2_iff t).mp h)
    simp only [hflush, hidle, idle_in0, idle_in1, idle_in2, idle_in3, loose0_0, loose0_1, loose0_2, loose0_3]
    unfold inv bodyAt0
    iintro ⟨⟨⟨%f, %hf, HS⟩, Hg⟩, Ho, ⟨%d0, H0⟩, ⟨%d1, H1⟩, ⟨%d2, H2⟩, ⟨%d3, H3⟩, H4⟩
    rw [before0 m c t d0, before1 m c t d1, before2 m c t d2, before3 m c t d3]
    iapply (rows_run (F := F) c (grid0.coords t) h1 h2 _ _ _ _ _ _ _ _ _ _ _ _ (wts m c) (win0_1.fill (grid0.coords t) d1 (iblk m c 1 t))
      (win0_2.fill (grid0.coords t) d2 (iblk m c 2 t)) (sq m c) f _)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    isplitl [HS Hg]
    · isplitl [HS]
      · iexists _; isplitr; swap; · iexact HS
        ipureintro
        exact upto_step m c t ht d1 d2 f hf
      iexact Hg
    isplitl [Ho]; · iexact Ho
    have hc1 : win0_1.cut (grid0.coords t) ((dats m 0 c).after 1 t) = iblk m c 1 t := win0_1.cut_fill _ _ _
    have hc2 : win0_2.cut (grid0.coords t) ((dats m 0 c).after 2 t) = iblk m c 2 t := win0_2.cut_fill _ _ _
    isplitl [H0]
    · change _ ⊢ owns (c : Thread nD τ) (st0_0 t) fullShare (iblk m c 0 t)
      rw [iblk0_eq]
    isplitl [H1]
    · iexists d1
      change _ ⊢ owns (c : Thread nD τ) (st0_1 t) fullShare (win0_1.fill (grid0.coords t) d1 (win0_1.cut (grid0.coords t) ((dats m 0 c).after 1 t)))
      rw [hc1]
    isplitl [H2]
    · iexists d2
      change _ ⊢ owns (c : Thread nD τ) (st0_2 t) fullShare (win0_2.fill (grid0.coords t) d2 (win0_2.cut (grid0.coords t) ((dats m 0 c).after 2 t)))
      rw [hc2]
    isplitl [H3]
    · change _ ⊢ owns (c : Thread nD τ) (st0_3 t) fullShare (iblk m c 3 t)
      rw [iblk3_eq]
    iexact H4

/-! ## The run -/

theorem inv_in (c : Dev nD) : Pipeline.ΦA spec0 c ⊢ (dats (F := F) m 0 c).Φ 0 := by
  rw [show (dats (F := F) m 0 c).Φ 0 = inv m c 0 from rfl]
  unfold inv Pipeline.ΦA
  rw [scopedRest0_eq]
  simp only [owns_whole]
  iintro ⟨⟨%f, HS⟩, Hg⟩
  isplitl [HS]
  · iexists f; isplitr
    · ipureintro
      intro hb y hy
      exact absurd hy (Nat.not_lt_zero _)
    iexact HS
  iexact Hg

theorem inv_out (c : Dev nD) : (dats (F := F) m 0 c).Φ (Fin.last cfg0.N) ⊢ Pipeline.ΦA spec0 c := by
  rw [show (dats (F := F) m 0 c).Φ (Fin.last cfg0.N) = inv m c cfg0.N from rfl]
  unfold inv Pipeline.ΦA
  rw [scopedRest0_eq]
  simp only [owns_whole]
  iintro ⟨⟨%f, -, HS⟩, Hg⟩
  isplitl [HS]
  · iexists f; iexact HS
  iexact Hg

/-- What a final state is: every array of the region at what its write-backs left, every other array at what the host
    operations after the region left, and every counter at zero. -/
def Ends (r : PUnit × MemSt nD τ sig (Elt F)) : Prop :=
  Pipeline.FramePost cfgs (dats m) 0 (Pipeline.afterTail₀ cfgs (dats m) 0 (V0 m) [hostOps1]) r ∧ r.2.sem = fun _ => 0

-- the launch theorem's implicit arguments are found by unifying its conclusion with this one, which takes unfolding plain definitions
set_option backward.isDefEq.respectTransparency.types false in
/-- Every weakly fair execution terminates in such a state. -/
theorem run_main : θ_run defs (onTc (τ := τ) (main (F := F))) (s₀ m ρ) (Ends m) :=
  Pipeline.θ_run_frame_around_track_shared (Q' := Ends m) cfgs (dats m) (0 : Fin 1) launch₀0 defs₀ Variants.none m ρ main
    (hbody := body_obligation m) (hq := fun _ _ _ => rfl) (howed := fun _ _ => rfl) (V₀ := V0 m) (opss := [hostOps1])
    (hsub := sfx_sub) (hfresh := sfx_fresh) (hkeep := sfx_keeps) (hmain := hmain m Variants.none) (hA := fun _ _ => rfl)
    (hin := inv_in m) (hout := inv_out m) (hQ' := fun _ h => h)

/-- The arguments end as they were and every counter ends at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩) (run_main m ρ)

end Cert.KernelIdeal.Band

end
-- ==== Proof.ValueIdeal.lean ====
/-
  What the kernel's result array holds, read element by element over the extended reals: the output array block by block,
  the arrays the host lays out in front of the region, one row's band sums, and the product with the identity matrix.
-/
module

public import proofs.«01_k».proof.Proof.RunIdeal
public import Idealize.ShloMosaic.Lib.StableHlo.ReadAt

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL.Sem

/-! ## The output array -/

section
variable {F : FTy → Type} [FloatOps F] (m : (ℓ : Loc nD τ sig) → Buf (Elt F) ℓ)

/-- The whole output array: batch `b`'s block is made of batch `b`'s intermediate array. -/
def outArr (c : Dev nD) : S8x8x32x32x50.Idx → Elt F .f32 := fun i =>
  outBlock (rowsOf m c (i 0)) (sq m c) (ix5 (n0 := 1) (n1 := 8) (n2 := 32) (n3 := 32) (n4 := 50) 0 (i 1) (i 2) (i 3) (i 4))

theorem flushed_out (c : Dev nD) (t : Fin cfg0.N) :
    (dats m 0 c).flushed 4 t = ((cfg0.win 4).blk t).view.read (Elt F) (outArr m c) := by
  funext y
  rw [View.read_apply]
  have hi := index4 t
  have e0 : (y 0).val = 0 := by have := (y 0).isLt; change (y 0).val < 1 at this; omega
  have hv : ∀ a, ((win0_4.rect t).emb y a).val = win0_4.index t a * S1x8x32x32x50.size a + (y a).val := win0_4.rect_emb_val t y
  rw [hi] at hv
  have hb : (win0_4.rect t).emb y 0 = batch t := Fin.ext ((hv 0).trans (by rw [e0]; change t.val / 8 * 1 + 0 = t.val / 8; omega))
  have h1 : ((win0_4.rect t).emb y 1).val = (y 1).val := (hv 1).trans (by change 0 * 8 + (y 1).val = (y 1).val; omega)
  have h2 : ((win0_4.rect t).emb y 2).val = (y 2).val := (hv 2).trans (by change 0 * 32 + (y 2).val = (y 2).val; omega)
  have h3 : ((win0_4.rect t).emb y 3).val = (y 3).val := (hv 3).trans (by change 0 * 32 + (y 3).val = (y 3).val; omega)
  have h4 : ((win0_4.rect t).emb y 4).val = (y 4).val := (hv 4).trans (by change 0 * 50 + (y 4).val = (y 4).val; omega)
  change outBlock (rowsOf m c (batch t)) (sq m c) y = outArr m c ((win0_4.rect t).emb y)
  unfold outArr
  rw [hb]
  refine congrArg _ (funext fun a => Fin.ext ?_)
  fin_cases a
  · exact e0
  · exact h1.symm
  · exact h2.symm
  · exact h3.symm
  · exact h4.symm

theorem covered (i : S8x8x32x32x50.Idx) : ∃ t : Fin cfg0.N, (cfg0.win 4).flush t = true ∧ i ∈ ((cfg0.win 4).blk t).view.set := by
  have h0 := (i 0).isLt
  change (i 0).val < 8 at h0
  have hN := N_0
  let t : Fin cfg0.N := ⟨8 * (i 0).val + 7, by change 8 * (i 0).val + 7 < grid0.N; omega⟩
  have hq : t.val / 8 = (i 0).val := by change (8 * (i 0).val + 7) / 8 = (i 0).val; omega
  refine ⟨t, (flush0_4 t).mpr (by change (8 * (i 0).val + 7) % 8 = 7; omega), ?_⟩
  let y : S1x8x32x32x50.Idx := ix5 (n0 := 1) (n1 := 8) (n2 := 32) (n3 := 32) (n4 := 50) 0 (i 1) (i 2) (i 3) (i 4)
  have hv : ∀ a, ((win0_4.rect t).emb y a).val = win0_4.index t a * S1x8x32x32x50.size a + (y a).val := win0_4.rect_emb_val t y
  rw [index4 t] at hv
  have e : ((cfg0.win 4).blk t).view.emb y = i := by
    funext a
    refine Fin.ext ((hv a).trans ?_)
    fin_cases a
    · change t.val / 8 * 1 + 0 = (i 0).val; omega
    · change 0 * 8 + (i 1).val = (i 1).val; omega
    · change 0 * 32 + (i 2).val = (i 2).val; omega
    · change 0 * 32 + (i 3).val = (i 3).val; omega
    · change 0 * 50 + (i 4).val = (i 4).val; omega
  rw [← e]
  exact View.emb_mem_set _ y

theorem arr_final (c : Dev nD) : (dats m 0 c).arrAt 4 cfg0.N = outArr m c :=
  (dats m 0 c).arrAt_eq_of_cover 4 (outArr m c) (fun t _ => flushed_out m c t) covered

end

/-! ## The arrays in front of the region -/

section
variable (m : (ℓ : Loc nD τ sig) → Buf (Elt Ideal) ℓ)

/-- The two arguments. -/
def spec (c : Dev nD) : S8x50x129x32x32.Idx → EReal := m ((c : Thread nD τ).loc main_arg0)
def masks (c : Dev nD) : S8x129.Idx → EReal := m ((c : Thread nD τ).loc main_arg1)

/-- A band's count: the sum of its mask. -/
def count (c : Dev nD) (g : Fin 8) : EReal := ∑ f : Fin 129, masks m c (ix2 g f)

theorem wts_apply (c : Dev nD) (g : Fin 8) (f : Fin 129) : wts m c (ix2 g f) = Ideal.div (masks m c (ix2 g f)) (count m c g) := by
  unfold wts count masks
  unfold V V0
  after_reads_at

theorem xs_apply (c : Dev nD) (b : Fin 8) (T : Fin 50) (p : Fin 1024) (f : Fin 129) (y x : Fin 32) (h : p.val = y.val * 32 + x.val) :
    xs m c (ix4 b T p f) = spec m c (ix5 b T f y x) := by
  unfold xs spec
  unfold V V0
  after_reads_at
  have e1 : (⟨p.val / 32, by omega⟩ : Fin 32) = y := Fin.ext (by have := x.isLt; change p.val / 32 = y.val; omega)
  have e2 : (⟨p.val % 32, by omega⟩ : Fin 32) = x := Fin.ext (by have := x.isLt; change p.val % 32 = x.val; omega)
  rw [e1, e2]

/-- The comparison of the two position numbers holds exactly on the diagonal. -/
theorem diagonal : ∀ T t : Fin 56, IntOp.cmpi CmpIPredicate.eq (IntOp.addi (BitVec.ofNat 32 T.val) 0#32) (BitVec.ofNat 32 t.val) = if T = t then 1#1 else 0#1 := by
  intro T t
  have hT := T.isLt
  have ht := t.isLt
  unfold IntOp.cmpi IntOp.addi
  rw [BitVec.add_zero]
  by_cases h : T = t
  · rw [if_pos h, h]; simp
  · rw [if_neg h]
    have h' : ¬BitVec.ofNat 32 T.val = BitVec.ofNat 32 t.val := fun e => h (Fin.ext (by
      have e' := congrArg BitVec.toNat e
      rw [BitVec.toNat_ofNat, BitVec.toNat_ofNat, Nat.mod_eq_of_lt (by omega), Nat.mod_eq_of_lt (by omega)] at e'
      exact e'))
    exact congrArg BitVec.ofBool (beq_eq_false_iff_ne.mpr h')

theorem sq_apply (c : Dev nD) (T t : Fin 56) : sq m c (ix2 T t) = if T = t then 1 else 0 := by
  unfold sq
  unfold V V0
  after_reads_at
  rw [diagonal]
  split
  · exact congrArg (fun r : ℝ => (r : EReal)) (by norm_num)
  · exact congrArg (fun r : ℝ => (r : EReal)) (by norm_num)

end

/-! ## A row's sums, and the product with the identity -/

theorem rowSum_apply (m6 : Vec Ideal S8x128 .f32) (m8 : Vec Ideal S8x1 .f32) (xa : Vec Ideal S1x1x1024x128 .f32) (xb : Vec Ideal S1x1x1024x1 .f32) (g : Fin 8) (p : Fin 1024) :
    rowSum m6 m8 1#1 xa xb (ix2 g p) = ∑ f : Fin 128, m6 (ix2 g f) * xa (ix4 0 0 p f) + m8 (ix2 g 0) * xb (ix4 0 0 p 0) := by
  have e : ∀ {α : Type} (p q : α), Scalar.select 1#1 p q = p := fun p q => if_pos rfl
  unfold rowSum; simp only [e]
  pointwise [k0_pay3, k0_pay4, k0_pay6]

theorem bandMat_apply (Y : S7x8x8x1024.Idx → Elt Ideal .f32) (E : Vec Ideal S56x56 .f32) (g : Fin 8) (p : Fin 1024) (t : Fin 56) :
    bandMat Y E g (ix2 p t) = ∑ T : Fin 56, Y (ix4 ⟨T.val / 8, by omega⟩ g ⟨T.val % 8, by omega⟩ p) * E (ix2 T t) := by
  unfold bandMat
  pointwise [slab]

/-- The product with the identity reads a column off. -/
theorem bandMat_identity (Y : S7x8x8x1024.Idx → Elt Ideal .f32) (E : Vec Ideal S56x56 .f32) (hE : ∀ T t : Fin 56, E (ix2 T t) = if T = t then (1 : EReal) else 0)
    (g : Fin 8) (p : Fin 1024) (t : Fin 56) : bandMat Y E g (ix2 p t) = Y (ix4 ⟨t.val / 8, by omega⟩ g ⟨t.val % 8, by omega⟩ p) := by
  rw [bandMat_apply, Finset.sum_eq_single t]
  · rw [hE, if_pos rfl]; exact mul_one _
  · intro T _ hT
    rw [hE, if_neg hT]; exact mul_zero _
  · exact fun h => absurd (Finset.mem_univ t) h

/-! ## Where the division stands does not matter -/

/-- A factor that is at least zero and not infinite goes into a sum. -/
theorem sum_mul_of_nonneg {ι : Type} (s : Finset ι) (a : ι → EReal) (k : EReal) (h0 : 0 ≤ k) (h1 : k ≠ ⊤) : (∑ i ∈ s, a i) * k = ∑ i ∈ s, a i * k := by
  classical
  induction s using Finset.induction_on with
  | empty => simp
  | insert i s hi ih => rw [Finset.sum_insert hi, Finset.sum_insert hi, EReal.right_distrib_of_nonneg_of_ne_top h0 h1, ih]

/-- Dividing each weight by a positive count, or the whole sum: one number. -/
theorem divided_sum (w x : Fin 129 → EReal) (n : EReal) (hn : 0 < n) :
    ∑ f : Fin 128, Ideal.div (w ⟨f.val, by omega⟩) n * x ⟨f.val, by omega⟩ + Ideal.div (w 128) n * x 128 = Ideal.div (∑ f, w f * x f) n := by
  have hd : ∀ a, Ideal.div a n = a * n⁻¹ := fun a => if_neg hn.ne'
  have h0 : 0 ≤ n⁻¹ := EReal.inv_nonneg_of_nonneg hn.le
  have h1 : n⁻¹ ≠ ⊤ := by
    induction n with
    | bot => simp
    | top => simp
    | coe r => rw [← EReal.coe_inv]; exact EReal.coe_ne_top _
  simp only [hd]
  rw [sum_mul_of_nonneg _ _ _ h0 h1]
  refine Eq.trans ?_ (Fin.sum_univ_castSucc (n := 128) fun f => w f * x f * n⁻¹).symm
  refine congrArg₂ (fun a b : EReal => a + b) (Finset.sum_congr rfl fun f _ => ?_) ?_
  · exact mul_right_comm _ _ _
  · exact mul_right_comm _ _ _

/-! ## The result, element by element -/

section
variable (m : (ℓ : Loc nD τ sig) → Buf (Elt Ideal) ℓ)

theorem outArr_apply (c : Dev nD) (b g : Fin 8) (t : Fin 50) (y x : Fin 32) (hn : 0 < count m c g) :
    outArr m c (ix5 b g y x t) = Ideal.div (∑ f : Fin 129, masks m c (ix2 g f) * spec m c (ix5 b t f y x)) (count m c g) := by
  have hp : y.val * 32 + x.val < 1024 := by omega
  have h56 : t.val < 56 := by omega
  change bandMat (rowsOf m c b) (sq m c) g (ix2 (n0 := 1024) (n1 := 56) ⟨y.val * 32 + x.val, hp⟩ ⟨t.val, h56⟩) = _
  rw [bandMat_identity _ _ (sq_apply m c)]
  have hin : inside (BitVec.ofNat 32 (t.val / 8)) (t.val % 8) = 1#1 :=
    (inside_iff ⟨t.val / 8, by omega⟩ ⟨t.val % 8, by omega⟩).mpr (by change 8 * (t.val / 8) + t.val % 8 < 50; omega)
  have hT : 8 * (t.val / 8) + t.val % 8 = t.val := by omega
  change rowSum (firstW (wts m c)) (lastW (wts m c)) (inside (BitVec.ofNat 32 (t.val / 8)) (t.val % 8)) (fullA m c b (8 * (t.val / 8) + t.val % 8))
    (fullB m c b (8 * (t.val / 8) + t.val % 8)) (ix2 (n0 := 8) (n1 := 1024) g ⟨y.val * 32 + x.val, hp⟩) = _
  rw [hin, hT, rowSum_apply, ← divided_sum _ _ _ hn]
  refine congrArg₂ (fun a b : EReal => a + b) (Finset.sum_congr rfl fun f _ => ?_) ?_
  · refine congrArg₂ (fun a b : EReal => a * b) (wts_apply m c g ⟨f.val, by omega⟩) ?_
    unfold fullA
    rw [dif_pos t.isLt]
    exact xs_apply m c b t ⟨y.val * 32 + x.val, hp⟩ ⟨f.val, by omega⟩ y x rfl
  · refine congrArg₂ (fun a b : EReal => a * b) (wts_apply m c g 128) ?_
    unfold fullB
    rw [dif_pos t.isLt]
    exact xs_apply m c b t ⟨y.val * 32 + x.val, hp⟩ 128 y x rfl

/-- The band averages as the host lays them out. -/
def result (c : Dev nD) : S8x50x8x32x32.Idx → EReal := fun i =>
  Ideal.div (∑ f : Fin 129, masks m c (ix2 (n0 := 8) (n1 := 129) (i 2) f) * spec m c (ix5 (n0 := 8) (n1 := 50) (n2 := 129) (n3 := 32) (n4 := 32) (i 0) (i 1) f (i 3) (i 4))) (count m c (i 2))

/-- Every execution ends with the band averages in the result array and the arguments as they were. -/
theorem run_result (ρ : Dev nD → PrngReg) (hn : ∀ c g, 0 < count m c g) :
    θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_,
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c)⟩) (run_main m ρ)
  refine ((h.1 c).2 main_v13 (Pipeline.mem_restRefs_of main_v13 (by decide) (by decide))).trans ?_
  have ha : StableHlo.after [hostOps1].flatten (Pipeline.withArrays spec0 c (V0 m c) fun w => (dats m 0 c).arrAt w cfg0.N) (Proc.devRef .tc main_v13)
      = transpose S8x50x8x32x32 [0, 4, 1, 2, 3] (outArr m c) transposes_S8x8x32x32x50_S8x50x8x32x32_0_4_1_2_3 := by
    rw [← arr_final m c]
    after_reads_simp
    exact congrArg (fun X => transpose S8x50x8x32x32 [0, 4, 1, 2, 3] X transposes_S8x8x32x32x50_S8x50x8x32x32_0_4_1_2_3)
      ((dats m 0 c).withArrays_arrAt sharedIn0 (V0 m c) (fun _ => rfl) 4)
  refine ha.trans (funext fun i => ?_)
  pointwise
  exact outArr_apply m c (i 0) (i 2) (i 1) (i 3) (i 4) (hn c _)

end

end Cert.KernelIdeal.Band

end
-- ==== Proof.lean ====
/-
  The claims about the band averages, put together: the three programs run, keep their arguments and end quiescent, and
  where every band's count is positive the kernel's averages are the reference's.
-/
module

public import proofs.«01_k».proof.Defs
public import proofs.«01_k».proof.Proof.Run
public import proofs.«01_k».proof.Proof.ValueIdeal
public import proofs.«01_k».proof.Proof.Gen.ReferenceIdeal
public import Idealize.ShloMosaic.Adequacy
public import Idealize.ShloMosaic.Init
public import Idealize.ShloMosaic.Lib.Claim
public import Idealize.ShloMosaic.Lib.Pointwise

@[expose] public section

noncomputable section

namespace Cert.Proof

open Idealize.ShloMosaic Idealize.SL.Sem

/-- The reference is one straight line of host operations, none of which writes an argument. -/
theorem reference_frame : @Cert.quiescent_ReferenceIdeal Cert.ReferenceIdeal.Gen.facts := by
  intro m g _
  hlo_run
  · exact fun _ => ⟨trivial, trivial⟩
  · exact sem_eq_zero_of_no_sems (by decide) _

/-- The shape facts the precondition states. -/
theorem pre_facts : Cert.Pre_positive_counts.Facts := by
  constructor <;> first | exact Cert.ReferenceIdeal.Gen.facts.reducesTo_S8x129_S8_d1 | decide

/-- The precondition read: every band's count is positive. -/
theorem positive_of_pre (m : (ℓ : Loc Cert.KernelIdeal.nD Cert.KernelIdeal.τ Cert.KernelIdeal.sig) → Buf (Elt Ideal) ℓ)
    (h : @Cert.Pre_KernelIdeal_positive_counts pre_facts m) (c : Dev Cert.KernelIdeal.nD) (g : Fin 8) : 0 < Cert.KernelIdeal.Band.count m c g := by
  have e := congrFun (h c) (ix1 (n0 := 8) g)
  unfold Cert.Pre_positive_counts.fn at e
  revert e
  pointwise
  intro e
  by_contra hn
  exact absurd (e.symm.trans (congrArg BitVec.ofBool (decide_eq_false hn))) (by decide)

/-- The kernel's band averages are the reference's: each weight divided by the count in front of the contraction, or the contraction divided after it. -/
theorem algebraic : @Cert.algebraic_KernelIdeal_ReferenceIdeal_pre_positive_counts Cert.KernelIdeal.Gen.facts Cert.ReferenceIdeal.Gen.facts pre_facts := by
  intro m g m' g' hpre hagree
  refine ⟨fun c => Cert.KernelIdeal.Band.result m c, Cert.KernelIdeal.Band.run_result m g (positive_of_pre m hpre), ?_⟩
  hlo_run
  funext i
  unfold Cert.KernelIdeal.Band.result Cert.KernelIdeal.Band.count Cert.KernelIdeal.Band.masks Cert.KernelIdeal.Band.spec
  pointwise

theorem claim : Cert.Claim := ⟨Cert.Kernel.Gen.facts, Cert.KernelIdeal.Gen.facts, Cert.ReferenceIdeal.Gen.facts, pre_facts,
  fun m g _ => Cert.Kernel.Band.frame_quiescent m g,
  fun m g _ => Cert.KernelIdeal.Band.frame_quiescent m g,
  fun m g _ => Cert.KernelIdeal.Band.frame_quiescent m g,
  reference_frame,
  fun m g _ => reference_frame m g trivial,
  trivial,
  algebraic⟩

end Cert.Proof

end
